-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x32x32x32 : Shape := ⟨4, ![16, 32, 32, 32]⟩
abbrev S8192x32 : Shape := ⟨2, ![8192, 32]⟩
abbrev S16384x32 : Shape := ⟨2, ![16384, 32]⟩
abbrev S32x8192 : Shape := ⟨2, ![32, 8192]⟩
abbrev S16384x1 : Shape := ⟨2, ![16384, 1]⟩
abbrev S1024x32 : Shape := ⟨2, ![1024, 32]⟩
abbrev S1024x1 : Shape := ⟨2, ![1024, 1]⟩
abbrev S1024 : Shape := ⟨1, ![1024]⟩
abbrev S8192 : Shape := ⟨1, ![8192]⟩
abbrev S1x8192 : Shape := ⟨2, ![1, 8192]⟩
abbrev S1024x8192 : Shape := ⟨2, ![1024, 8192]⟩
abbrev S16x32x32 : Shape := ⟨3, ![16, 32, 32]⟩

abbrev nBuf : Space → Nat
  | .hbm => 7
  | .vmem => 5
  | .smem => 0
  | _ => 0

abbrev bufTy : (tb : Table) → Fin (tcTables nBuf tb) → BufTy
  | .hbm, ⟨0, _⟩ => ⟨S16x32x32x32, .f32⟩
  | .hbm, ⟨1, _⟩ => ⟨S8192x32, .f32⟩
  | .hbm, ⟨2, _⟩ => ⟨S16x32x32x32, .f32⟩
  | .hbm, ⟨3, _⟩ => ⟨S16384x32, .f32⟩
  | .hbm, ⟨4, _⟩ => ⟨S32x8192, .f32⟩
  | .hbm, ⟨5, _⟩ => ⟨S16384x1, .i32⟩
  | .hbm, ⟨6, _⟩ => ⟨S16x32x32, .i32⟩
  | .local _ .vmem, ⟨0, _⟩ => ⟨S1024x32, .f32⟩
  | .local _ .vmem, ⟨1, _⟩ => ⟨S1024x32, .f32⟩
  | .local _ .vmem, ⟨2, _⟩ => ⟨S32x8192, .f32⟩
  | .local _ .vmem, ⟨3, _⟩ => ⟨S1024x1, .i32⟩
  | .local _ .vmem, ⟨4, _⟩ => ⟨S1024x1, .i32⟩
  | _, _ => ⟨S16x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x32x32x32 : Shape := ⟨4, ![16, 32, 32, 32]⟩
abbrev S8192x32 : Shape := ⟨2, ![8192, 32]⟩
abbrev S16384x32 : Shape := ⟨2, ![16384, 32]⟩
abbrev S_ : Shape := ⟨0, ![]⟩
abbrev S8192 : Shape := ⟨1, ![8192]⟩
abbrev S16384 : Shape := ⟨1, ![16384]⟩
abbrev S16384x1 : Shape := ⟨2, ![16384, 1]⟩
abbrev S1x8192 : Shape := ⟨2, ![1, 8192]⟩
abbrev S16384x8192 : Shape := ⟨2, ![16384, 8192]⟩
abbrev S32x8192 : Shape := ⟨2, ![32, 8192]⟩
abbrev S16x32x32 : Shape := ⟨3, ![16, 32, 32]⟩

abbrev nBuf : Space → Nat
  | .hbm => 27
  | .vmem => 0
  | .smem => 0
  | _ => 0

abbrev bufTy : (tb : Table) → Fin (tcTables nBuf tb) → BufTy
  | .hbm, ⟨0, _⟩ => ⟨S16x32x32x32, .f32⟩
  | .hbm, ⟨1, _⟩ => ⟨S8192x32, .f32⟩
  | .hbm, ⟨2, _⟩ => ⟨S16x32x32x32, .f32⟩
  | .hbm, ⟨3, _⟩ => ⟨S16384x32, .f32⟩
  | .hbm, ⟨4, _⟩ => ⟨S8192x32, .f32⟩
  | .hbm, ⟨5, _⟩ => ⟨S_, .f32⟩
  | .hbm, ⟨6, _⟩ => ⟨S8192, .f32⟩
  | .hbm, ⟨7, _⟩ => ⟨S16384x32, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S1x8192, .f32⟩
  | .hbm, ⟨12, _⟩ => ⟨S16384x8192, .f32⟩
  | .hbm, ⟨13, _⟩ => ⟨S16384x8192, .f32⟩
  | .hbm, ⟨14, _⟩ => ⟨S16384x8192, .f32⟩
  | .hbm, ⟨15, _⟩ => ⟨S32x8192, .f32⟩
  | .hbm, ⟨16, _⟩ => ⟨S16384x8192, .f32⟩
  | .hbm, ⟨17, _⟩ => ⟨S_, .f32⟩
  | .hbm, ⟨18, _⟩ => ⟨S16384x8192, .f32⟩
  | .hbm, ⟨19, _⟩ => ⟨S16384x8192, .f32⟩
  | .hbm, ⟨20, _⟩ => ⟨S16384x8192, .f32⟩
  | .hbm, ⟨21, _⟩ => ⟨S16384x8192, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16x32x32, .i32⟩
  | _, _ => ⟨S16x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.RefRun.lean ====
/- The reference's run: its @main is a straight line of host operations, the called arg-min's among them, so it ends
   with every buffer at the operations' results over the launch contents. -/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.RefRun

open Cert.ReferenceIdeal Cert.ReferenceIdeal.Gen
open Idealize.ShloMosaic Idealize.ShloMosaic.TcCoe Idealize.ShloMosaic.StableHlo Idealize.SL.Sem

variable {F : FTy → Type} [FloatOps F]

/-- The distances' operations, in order: up to the array of distances. -/
abbrev opsDist : List (HloOp τ sig (Elt F)) :=
  [ unary main_arg0 main_v0 (transpose S16x32x32x32 [0, 2, 3, 1] · transposes_S16x32x32x32_S16x32x32x32_0_2_3_1),
    reshape main_v0 main_v1 (rfl : (.f32 : EltTy) = .f32) shapeCasts_S16x32x32x32_S16384x32,
    binary main_arg1 main_arg1 main_v2 mulf,
    nullary main_cst (constant S_ .f32 0x00000000#32),
    binary main_v2 main_cst main_v3 (fun x v => Host.reduceAdd x v reducesTo_S8192x32_S8192_d1 h_S_),
    binary main_v1 main_v1 main_v4 mulf,
    nullary main_cst_0 (constant S_ .f32 0x00000000#32),
    binary main_v4 main_cst_0 main_v5 (fun x v => Host.reduceAdd x v reducesTo_S16384x32_S16384_d1 h_S_),
    unary main_v5 main_v6 (broadcastInDim S16384x1 ![0] bcast_S16384_S16384x1_0),
    unary main_v3 main_v7 (broadcastInDim S1x8192 ![1] bcast_S8192_S1x8192_1),
    unary main_v7 main_v8 (broadcastInDim S16384x8192 ![0, 1] bcast_S1x8192_S16384x8192_0_1),
    unary main_v6 main_v9 (broadcastInDim S16384x8192 ![0, 1] bcast_S16384x1_S16384x8192_0_1),
    binary main_v8 main_v9 main_v10 addf,
    unary main_arg1 main_v11 (transpose S32x8192 [1, 0] · transposes_S8192x32_S32x8192_1_0),
    binary main_v1 main_v11 main_v12 (fun l r => Host.dotGeneral dot_S16384x32_S32x8192_S16384x8192_1_0_0_1_n_n none l r),
    nullary main_cst_1 (constant S_ .f32 0x40000000#32),
    unary main_cst_1 main_v13 (broadcastInDim S16384x8192 ![] bcast_S_S16384x8192),
    binary main_v13 main_v12 main_v14 mulf,
    binary main_v10 main_v14 main_v15 subf ]

/-- The arg-min's two results, value and index, as functions of its four operands. -/
def argVal (x : FVec F S16384x8192 .f32) (y : IVec S16384x8192 32) (u : FVec F S_ .f32) (v : IVec S_ 32) : FVec F S16384 .f32 :=
  fun j => (Host.argReduce reducer_argmin_f32_i32 x y u v reducesTo_S16384x8192_S16384_d1 h_S_ j).1
/-- The second of the two, the index. -/
def argIdx (x : FVec F S16384x8192 .f32) (y : IVec S16384x8192 32) (u : FVec F S_ .f32) (v : IVec S_ 32) : IVec S16384 32 :=
  fun j => (Host.argReduce reducer_argmin_f32_i32 x y u v reducesTo_S16384x8192_S16384_d1 h_S_ j).2

/-- The operations from there on, for any two functions in the place of those. -/
abbrev opsArgOf (f : FVec F S16384x8192 .f32 → IVec S16384x8192 32 → FVec F S_ .f32 → IVec S_ 32 → FVec F S16384 .f32)
    (g : FVec F S16384x8192 .f32 → IVec S16384x8192 32 → FVec F S_ .f32 → IVec S_ 32 → IVec S16384 32) :
    List (HloOp τ sig (Elt F)) :=
  [ nullary main_call0_v0 (iotaInDim S16384x8192 32 1),
    nullary main_call0_cst (constant S_ .f32 0x7F800000#32),
    nullary main_call0_c (constantI S_ 32 0#32),
    quaternary main_v15 main_call0_v0 main_call0_cst main_call0_c main_call0_v1_0 f,
    quaternary main_v15 main_call0_v0 main_call0_cst main_call0_c main_v16 g,
    reshape main_v16 main_v17 (rfl : (.i32 : EltTy) = .i32) shapeCasts_S16384_S16x32x32 ]

/-- The arg-min's operations and the last reshape. -/
abbrev opsArg : List (HloOp τ sig (Elt F)) := opsArgOf argVal argIdx

/-- All of @main's operations. -/
abbrev ops : List (HloOp τ sig (Elt F)) := opsDist ++ opsArg

/-- @main is that straight line. -/
theorem main_eq (c : Dev nD) : main (F := F) c = seq ops := rfl

/-- Nothing is scoped in this program. -/
theorem scopedRefs_eq : (Finset.univ.filter fun b : Ref sig .tc => b.isScoped) = ∅ := by decide
/-- No semaphore is scoped either. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., binary_bufs_sub .., nullary_bufs_sub .., binary_bufs_sub .., binary_bufs_sub ..,
    nullary_bufs_sub .., binary_bufs_sub .., unary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., nullary_bufs_sub .., nullary_bufs_sub .., quaternary_bufs_sub ..,
    quaternary_bufs_sub .., reshape_bufs_sub ..⟩

/-! ## What the result is of the arguments -/

/-- The rows: the first argument with its channel axis last, its other axes flattened. -/
abbrev rows (a : FVec F S16x32x32x32 .f32) : FVec F S16384x32 .f32 :=
  shapeCast S16384x32 (transpose S16x32x32x32 [0, 2, 3, 1] a transposes_S16x32x32x32_S16x32x32x32_0_2_3_1)
    shapeCasts_S16x32x32x32_S16384x32

/-- The codebook with its two axes exchanged. -/
abbrev cols (b : FVec F S8192x32 .f32) : FVec F S32x8192 .f32 :=
  transpose S32x8192 [1, 0] b transposes_S8192x32_S32x8192_1_0

/-- The array of squared distances, as the reference spells it, of the rows and the codebook. -/
abbrev dist (x : FVec F S16384x32 .f32) (b : FVec F S8192x32 .f32) : FVec F S16384x8192 .f32 :=
  subf
    (addf
      (broadcastInDim S16384x8192 ![0, 1] bcast_S1x8192_S16384x8192_0_1
        (broadcastInDim S1x8192 ![1] bcast_S8192_S1x8192_1
          (Host.reduceAdd (mulf b b) (constant S_ .f32 0x00000000#32) reducesTo_S8192x32_S8192_d1 h_S_)))
      (broadcastInDim S16384x8192 ![0, 1] bcast_S16384x1_S16384x8192_0_1
        (broadcastInDim S16384x1 ![0] bcast_S16384_S16384x1_0
          (Host.reduceAdd (mulf x x) (constant S_ .f32 0x00000000#32) reducesTo_S16384x32_S16384_d1 h_S_))))
    (mulf (broadcastInDim S16384x8192 ![] bcast_S_S16384x8192 (constant S_ .f32 0x40000000#32))
      (Host.dotGeneral dot_S16384x32_S32x8192_S16384x8192_1_0_0_1_n_n none x (cols b)))

/-- The index of the least distance, row by row, as the reference spells it. -/
abbrev arg (x : FVec F S16384x8192 .f32) : IVec S16384 32 :=
  argIdx x (iotaInDim S16384x8192 32 1) (constant S_ .f32 0x7F800000#32) (constantI S_ 32 0#32)

/-- The array of distances after the operations. -/
theorem dist_eq (V : Valuation τ sig (Elt F)) :
    after opsDist V (main_v15 : DevRef τ sig)
      = dist (rows (V (main_arg0 : DevRef τ sig))) (V (main_arg1 : DevRef τ sig)) := by
  after_results
  rfl

/-- The result after the remaining operations, for any two functions in the arg-min's place. -/
theorem argOf_eq (f : FVec F S16384x8192 .f32 → IVec S16384x8192 32 → FVec F S_ .f32 → IVec S_ 32 → FVec F S16384 .f32)
    (g : FVec F S16384x8192 .f32 → IVec S16384x8192 32 → FVec F S_ .f32 → IVec S_ 32 → IVec S16384 32)
    (V : Valuation τ sig (Elt F)) :
    after (opsArgOf f g) V (main_v17 : DevRef τ sig)
      = shapeCast S16x32x32 (g (V (main_v15 : DevRef τ sig)) (iotaInDim S16384x8192 32 1) (constant S_ .f32 0x7F800000#32)
          (constantI S_ 32 0#32)) shapeCasts_S16384_S16x32x32 := by
  after_results
  rfl

/-- The result after the remaining operations. -/
theorem arg_eq (V : Valuation τ sig (Elt F)) :
    after opsArg V (main_v17 : DevRef τ sig)
      = shapeCast S16x32x32 (arg (V (main_v15 : DevRef τ sig))) shapeCasts_S16384_S16x32x32 :=
  argOf_eq argVal argIdx V

/-- The fold of all the operations is that of the second part over that of the first. -/
theorem after_ops (V : Valuation τ sig (Elt F)) : after ops V = after opsArg (after opsDist V) := rfl

/-- The result after all the operations. -/
theorem out_eq (V : Valuation τ sig (Elt F)) :
    after ops V (main_v17 : DevRef τ sig)
      = shapeCast S16x32x32 (arg (dist (rows (V (main_arg0 : DevRef τ sig))) (V (main_arg1 : DevRef τ sig))))
          shapeCasts_S16384_S16x32x32 := by
  rw [after_ops, arg_eq, dist_eq]

/-- The distances' operations leave the first argument. -/
theorem dist_arg0 (V : Valuation τ sig (Elt F)) : after opsDist V (main_arg0 : DevRef τ sig) = V (main_arg0 : DevRef τ sig) := by
  after_results
/-- The distances' operations leave the second argument. -/
theorem dist_arg1 (V : Valuation τ sig (Elt F)) : after opsDist V (main_arg1 : DevRef τ sig) = V (main_arg1 : DevRef τ sig) := by
  after_results
/-- The remaining operations leave the first argument. -/
theorem arg_arg0 (V : Valuation τ sig (Elt F)) : after opsArg V (main_arg0 : DevRef τ sig) = V (main_arg0 : DevRef τ sig) := by
  after_results
/-- The remaining operations leave the second argument. -/
theorem arg_arg1 (V : Valuation τ sig (Elt F)) : after opsArg V (main_arg1 : DevRef τ sig) = V (main_arg1 : DevRef τ sig) := by
  after_results
/-- All the operations leave the first argument. -/
theorem arg0_eq (V : Valuation τ sig (Elt F)) : after ops V (main_arg0 : DevRef τ sig) = V (main_arg0 : DevRef τ sig) := by
  rw [after_ops, arg_arg0, dist_arg0]
/-- All the operations leave the second argument. -/
theorem arg1_eq (V : Valuation τ sig (Elt F)) : after ops V (main_arg1 : DevRef τ sig) = V (main_arg1 : DevRef τ sig) := by
  rw [after_ops, arg_arg1, dist_arg1]

variable (m : (ℓ : Loc nD τ sig) → Buf (Elt F) ℓ) (ρ : Dev nD → PrngReg)

/-- The reference's run: the result array holds the arg-min of the distances, the arguments are unchanged. -/
theorem run : θ_run defs (onTc (τ := τ) (main (F := F))) ⟨m, fun _ => 0, ρ⟩ fun r => ∀ c : Dev nD,
      r.2.mem ((c.tc : Thread nD τ).loc main_v17)
          = shapeCast S16x32x32 (arg (dist (rows (m ((c.tc : Thread nD τ).loc main_arg0))) (m ((c.tc : Thread nD τ).loc main_arg1))))
              shapeCasts_S16384_S16x32x32
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v17).trans (out_eq _), (h c main_arg0).trans (arg0_eq _),
      (h c main_arg1).trans (arg1_eq _)⟩)
    (run_seq scopedRefs_eq scopedSems_eq defs main (fun _ => ops) main_eq (fun _ => ops_sub) m ρ)

/-- The reference's frame: it ends with its arguments unchanged and every counter at zero (it has none). -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩) (run m ρ)

end Cert.RefRun

end
-- ==== Proof.ArgMin.lean ====
/- The least-argument law, apart from any program: for distances `d` indexed by finitely many codes, the word of the
   first code of least distance is what BOTH programs compute of them — the kernel as the least word among the codes
   whose distance is the minimum (and zero when the minimum is +∞), the reference as a left fold of (value, index)
   pairs that keeps the lexicographically lower one. -/
module

public import Idealize.ShloMosaic.PureOps.Ideal.Laws
public import Idealize.ShloMosaic.PureOps.Reduce
public import Idealize.ShloMosaic.Lib.SortNet.Extract
public import Idealize.ShloMosaic.Lib.ValueIdx

@[expose] public section

noncomputable section

namespace Cert.Nearest

open Idealize.ShloMosaic

/-! ## The first code of least distance -/

/-- `k` has the least distance, and no earlier code has the same. -/
structure IsFirst {n : Nat} (d : Fin n → EReal) (k : Fin n) : Prop where
  least : ∀ j, d k ≤ d j
  first : ∀ j, d j = d k → k ≤ j

/-- Among finitely many codes, at least one, there is such a code. -/
theorem exists_isFirst {n : Nat} [NeZero n] (d : Fin n → EReal) : ∃ k, IsFirst d k := by
  obtain ⟨a, ha⟩ := Finite.exists_min d
  obtain ⟨k, hk, hmin⟩ := (Finset.univ.filter fun j => d j = d a).exists_min_image id ⟨a, by simp⟩
  have hka : d k = d a := by simpa using hk
  exact ⟨k, fun j => hka ▸ ha j, fun j hj => hmin j (by simp [hj, hka])⟩

/-- The word both programs return for a row of distances. -/
def word {n : Nat} [NeZero n] (d : Fin n → EReal) : BitVec 32 := BitVec.ofNat 32 (exists_isFirst d).choose.val

/-- Codes below 2³¹ read signed as themselves. -/
theorem toInt_code {k : Nat} (h : k < 2 ^ 31) : (BitVec.ofNat 32 k).toInt = k := by
  rw [BitVec.toInt_ofNat', Int.bmod_eq_of_le] <;> omega

/-! ## The kernel's way -/

/-- The fold of `min` from +∞ is the least distance. -/
theorem fold_min {n : Nat} {d : Fin n → EReal} {k : Fin n} (h : IsFirst d k) :
    (Finset.univ : Finset (Fin n)).fold min ⊤ d = d k := by
  apply le_antisymm
  · exact (Finset.fold_min_le _).2 (.inr ⟨k, Finset.mem_univ _, le_rfl⟩)
  · exact (Finset.le_fold_min _).2 ⟨le_top, fun j _ => h.least j⟩

/-- A fold of the signed minimum is the word `r` when `r` is one of the words and no other word, nor the initial
    one, is below it. -/
theorem fold_minsi {n : Nat} (g : Fin n → BitVec 32) (init r : BitVec 32) (k : Fin n) (hk : g k = r)
    (hi : r.toInt ≤ init.toInt) (hg : ∀ j, r.toInt ≤ (g j).toInt) :
    (Finset.univ : Finset (Fin n)).fold IntOp.minsi init g = r := by
  apply BitVec.eq_of_toInt_eq
  rw [← Finset.fold_hom (op' := min) (m := BitVec.toInt) (SortNet.toInt_minsi (w := 32))]
  apply le_antisymm
  · exact (Finset.fold_min_le _).2 (.inr ⟨k, Finset.mem_univ _, by rw [hk]⟩)
  · exact (Finset.le_fold_min _).2 ⟨hi, fun j _ => hg j⟩

/-- The kernel's row: the least word among the codes whose distance equals the minimum, every other code standing as
    the word 8192; kept if the minimum is below +∞, else zero. -/
def kernelWord (d : Fin 8192 → EReal) : BitVec 32 :=
  Scalar.select (Ideal.cmp .olt ((Finset.univ : Finset (Fin 8192)).fold min ⊤ d) ⊤)
    ((Finset.univ : Finset (Fin 8192)).fold IntOp.minsi 2147483647#32 fun j =>
      Scalar.select (Ideal.cmp .oeq (d j) ((Finset.univ : Finset (Fin 8192)).fold min ⊤ d)) (BitVec.ofNat 32 j.val) 8192#32)
    0#32

/-- It is the first code of least distance. -/
theorem kernelWord_eq (d : Fin 8192 → EReal) : kernelWord d = word d := by
  unfold kernelWord word
  generalize (exists_isFirst d).choose = k, (exists_isFirst d).choose_spec = h
  rw [fold_min h]
  by_cases ht : d k = ⊤
  · have hk : k = 0 := Fin.le_zero_iff.1 (h.first 0 (by rw [ht]; exact top_le_iff.1 (ht ▸ h.least 0)))
    subst hk
    simp [Ideal.cmp, Scalar.select, ht]
  · have hlt : d k < ⊤ := lt_top_iff_ne_top.2 ht
    rw [show Ideal.cmp .olt (d k) ⊤ = 1 by simp [Ideal.cmp, hlt]]
    simp only [Scalar.select, if_true]
    have hkl := k.isLt
    apply fold_minsi _ _ _ k
    · simp [Ideal.cmp]
    · rw [toInt_code (by omega)]
      have : (2147483647#32).toInt = 2147483647 := by decide
      omega
    · intro j
      have hjl := j.isLt
      rw [toInt_code (by omega)]
      by_cases hj : d j = d k
      · rw [show Ideal.cmp .oeq (d j) (d k) = 1 by simp [Ideal.cmp, hj], if_pos rfl, toInt_code (by omega)]
        exact_mod_cast h.first j hj
      · rw [if_neg (by simp [Ideal.cmp, hj])]
        have : (8192#32).toInt = 8192 := by decide
        omega

/-! ## The reference's way -/

/-- The order on (value, index) pairs: by value, then by the index read signed. -/
def Le (p q : EReal × BitVec 32) : Prop := p.1 < q.1 ∨ p.1 = q.1 ∧ p.2.toInt ≤ q.2.toInt

/-- Every pair is below itself. -/
theorem Le.refl (p : EReal × BitVec 32) : Le p p := .inr ⟨rfl, le_rfl⟩

/-- The order is transitive. -/
theorem Le.trans {p q r : EReal × BitVec 32} (h : Le p q) (h' : Le q r) : Le p r := by
  rcases h with h | ⟨h, e⟩ <;> rcases h' with h' | ⟨h', e'⟩
  · exact .inl (h.trans h')
  · exact .inl (h' ▸ h)
  · exact .inl (h ▸ h')
  · exact .inr ⟨h.trans h', e.trans e'⟩

/-- Two pairs below each other are equal. -/
theorem Le.antisymm {p q : EReal × BitVec 32} (h : Le p q) (h' : Le q p) : p = q := by
  rcases h with h | ⟨h, e⟩ <;> rcases h' with h' | ⟨h', e'⟩
  · exact absurd h' h.asymm
  · exact absurd h (h' ▸ lt_irrefl _)
  · exact absurd h' (h ▸ lt_irrefl _)
  · exact Prod.ext h (BitVec.eq_of_toInt_eq (le_antisymm e e'))

/-- A function of two pairs that returns the lower one. -/
def Keeps (f : EReal × BitVec 32 → EReal × BitVec 32 → EReal × BitVec 32) : Prop :=
  ∀ a b, (f a b = a ∨ f a b = b) ∧ Le (f a b) a ∧ Le (f a b) b

/-- Its left fold returns one of the pairs, below all of them. -/
theorem foldl_keeps {f : EReal × BitVec 32 → EReal × BitVec 32 → EReal × BitVec 32} (hf : Keeps f) :
    ∀ (l : List (EReal × BitVec 32)) (a : EReal × BitVec 32),
      (l.foldl f a = a ∨ l.foldl f a ∈ l) ∧ Le (l.foldl f a) a ∧ ∀ p ∈ l, Le (l.foldl f a) p
  | [], a => ⟨.inl rfl, .refl a, fun _ h => absurd h List.not_mem_nil⟩
  | b :: l, a => by
    obtain ⟨hm, ha, hl⟩ := foldl_keeps hf l (f a b)
    obtain ⟨hab, hfa, hfb⟩ := hf a b
    rw [List.foldl_cons]
    refine ⟨?_, ha.trans hfa, fun p hp => ?_⟩
    · rcases hm with e | e
      · rcases hab with e' | e'
        · exact .inl (e.trans e')
        · exact .inr (by rw [e, e']; exact List.mem_cons_self)
      · exact .inr (List.mem_cons_of_mem _ e)
    · rcases List.mem_cons.1 hp with rfl | hp
      · exact ha.trans hfb
      · exact hl p hp

/-- Over any list of exactly the pairs (distance, code), in any order, from (+∞, 0) it returns the first code of least
    distance. -/
theorem foldl_eq_word {n : Nat} [NeZero n] (hn : n ≤ 2 ^ 31) {f : EReal × BitVec 32 → EReal × BitVec 32 → EReal × BitVec 32}
    (hf : Keeps f) (d : Fin n → EReal) (l : List (EReal × BitVec 32))
    (hl : ∀ p, p ∈ l ↔ ∃ j : Fin n, p = (d j, BitVec.ofNat 32 j.val)) : (l.foldl f (⊤, 0#32)).2 = word d := by
  unfold word
  generalize (exists_isFirst d).choose = k, (exists_isFirst d).choose_spec = h
  obtain ⟨hm, ha, hall⟩ := foldl_keeps hf l (⊤, 0#32)
  have key : Le (d k, BitVec.ofNat 32 k.val) (l.foldl f (⊤, 0#32)) := by
    have hj : ∀ j : Fin n, Le (d k, BitVec.ofNat 32 k.val) (d j, BitVec.ofNat 32 j.val) := fun j => by
      rcases (h.least j).lt_or_eq with hlt | heq
      · exact .inl hlt
      · refine .inr ⟨heq, ?_⟩
        have := k.isLt
        have := j.isLt
        show (BitVec.ofNat 32 k.val).toInt ≤ (BitVec.ofNat 32 j.val).toInt
        rw [toInt_code (by omega), toInt_code (by omega)]
        exact_mod_cast h.first j heq.symm
    rcases hm with e | e
    · rw [e]
      rcases (le_top : d k ≤ ⊤).lt_or_eq with hlt | heq
      · exact .inl hlt
      · have h0 : d 0 = ⊤ := top_le_iff.1 (heq ▸ h.least 0)
        have := hj 0
        rw [h0] at this
        simpa using this
    · obtain ⟨j, hj'⟩ := (hl _).1 e
      rw [hj']
      exact hj j
  exact congrArg Prod.snd ((hall _ ((hl _).2 ⟨k, rfl⟩)).antisymm key)

end Cert.Nearest

end
-- ==== Proof.Dist.lean ====
/- The squared distance of a row to a code, expanded as both programs expand it, and the arithmetic facts they share. -/
module

public import proofs.«01_k».proof.Proof.ArgMin
public import Idealize.ShloMosaic.Lib.MatmulPlain
public import Idealize.ShloMosaic.Lib.IdealHost
public import Idealize.ShloMosaic.Lib.Pipeline.Value

@[expose] public section

noncomputable section

namespace Cert.Nearest

open Idealize.ShloMosaic Idealize.ShloMosaic.ValueIdx
open scoped BigOperators

/-- The distance of row `r` of `x` to the code in column `k` of `y`: the code's squares plus the row's, minus twice the
    inner product. -/
def sqDist {M : Nat} (x : (⟨2, ![M, 32]⟩ : Shape).Idx → EReal) (y : (⟨2, ![32, 8192]⟩ : Shape).Idx → EReal) (r : Fin M)
    (k : Fin 8192) : EReal :=
  ((∑ a : Fin 32, y (ix2 a k) * y (ix2 a k)) + ∑ a : Fin 32, x (ix2 r a) * x (ix2 r a))
    - Ideal.ofBits .f32 0x40000000#32 * ∑ a : Fin 32, x (ix2 r a) * y (ix2 a k)

/-- The pattern 0x7F800000 is +∞. -/
theorem ofBits_inf : Ideal.ofBits .f32 0x7F800000#32 = ⊤ := by simp [Ideal.ofBits, Ideal.ieee]

/-- The word of the nearest code of row `r`. -/
def nearest {M : Nat} (x : (⟨2, ![M, 32]⟩ : Shape).Idx → EReal) (y : (⟨2, ![32, 8192]⟩ : Shape).Idx → EReal) (r : Fin M) :
    BitVec 32 := word (sqDist x y r)

/-- Rows of equal entries have the same nearest code. -/
theorem nearest_congr {M N : Nat} {x : (⟨2, ![M, 32]⟩ : Shape).Idx → EReal} {x' : (⟨2, ![N, 32]⟩ : Shape).Idx → EReal}
    {y y' : (⟨2, ![32, 8192]⟩ : Shape).Idx → EReal} {r : Fin M} {r' : Fin N} (hx : ∀ a, x (ix2 r a) = x' (ix2 r' a))
    (hy : ∀ a k, y (ix2 a k) = y' (ix2 a k)) : nearest x y r = nearest x' y' r' := by
  unfold nearest
  refine congrArg word (funext fun k => ?_)
  unfold sqDist
  simp only [hx, hy]

/-- The index half of an arg-min over the rows of an array of distances, whose pairs carry the codes and whose initial
    pair is (+∞, 0): at a row, the word of the row's first least entry. -/
theorem argReduce_row {M N : Nat} [NeZero N] (hN : N ≤ 2 ^ 31) (f : EReal × BitVec 32 → EReal × BitVec 32 → EReal × BitVec 32)
    (hf : Keeps f) (d : FVec Ideal ⟨2, ![M, N]⟩ .f32) (y : (⟨2, ![M, N]⟩ : Shape).Idx → BitVec 32)
    (hy : ∀ r k, y (ix2 r k) = BitVec.ofNat 32 k.val) {u : Shape} (ix : u.Idx → Ideal .f32) (iy : u.Idx → BitVec 32)
    (h : (⟨2, ![M, N]⟩ : Shape).ReducesTo [1] ⟨1, ![M]⟩) (h' : (⟨2, ![M, N]⟩ : Shape).Reduces [1] ⟨1, ![M]⟩)
    (hu : 0 < u.numel) (hx : ix (Shape.Idx.first hu) = (⊤ : EReal)) (hi : iy (Shape.Idx.first hu) = 0#32) (r : Fin M) :
    (Host.argReduce (F := Ideal) (φ := .f32) f d y ix iy h hu (ix1 r)).2 = word fun k => d (ix2 r k) := by
  rw [Ideal.argReduce_eq_reduce2, Host.reduce2_eq_foldl_fiber, hx, hi]
  refine foldl_eq_word hN hf _ _ fun p => ?_
  have e : ∀ k : Fin N, h'.lift (ix1 r) k = ix2 r k := fun k =>
    funext fun c => Fin.ext (by match c with | ⟨0, _⟩ => rfl | ⟨1, _⟩ => rfl)
  unfold Host.argReduceFiber
  simp only [List.mem_map, List.mem_filter, List.mem_finRange, true_and, decide_eq_true_eq]
  constructor
  · rintro ⟨n, hn, rfl⟩
    obtain ⟨k, hk⟩ : ∃ k : Fin N, (⟨2, ![M, N]⟩ : Shape).rowMajor.symm n = ix2 r k :=
      ⟨_, (h'.lift_drop _).symm.trans ((congrArg (h'.lift · _) ((congrFun (h.drop_eq_drop h') _).symm.trans hn)).trans (e _))⟩
    exact ⟨k, by rw [hk, hy]⟩
  · rintro ⟨k, rfl⟩
    refine ⟨(⟨2, ![M, N]⟩ : Shape).rowMajor (ix2 r k), ?_, ?_⟩
    · rw [Equiv.symm_apply_apply]
      exact (congrFun (h.drop_eq_drop h') _).trans ((congrArg h'.drop (e k).symm).trans (h'.drop_lift _ _))
    · rw [Equiv.symm_apply_apply, hy]

end Cert.Nearest

end
-- ==== Proof.Block.lean ====
/- What one block of the kernel computes: of 1024 rows and all 8192 codes, at each row the word of the nearest code. -/
module

public import proofs.«01_k».proof.Proof.Gen.KernelIdeal.Skeleton
public import proofs.«01_k».proof.Proof.Dist

@[expose] public section

noncomputable section

namespace Cert.Block

open Cert.KernelIdeal Cert.KernelIdeal.Gen Cert.Nearest
open Idealize.ShloMosaic Idealize.ShloMosaic.ValueIdx
open scoped BigOperators

/-- The block's distances, as the kernel spells them. -/
abbrev dist (x : FVec Ideal S1024x32 .f32) (y : FVec Ideal S32x8192 .f32) : FVec Ideal S1024x8192 .f32 :=
  subf
    (addf
      (broadcastTo S1024x8192
        (shapeCast S1x8192 (multiReduction .add [0] S8192 (mulf y y) 0x00000000#32 reduces_S32x8192_S8192 (.inl rfl) rfl)
          shapeCasts_S8192_S1x8192) broadcasts_S1x8192_S1024x8192)
      (broadcastTo S1024x8192
        (shapeCast S1024x1 (multiReduction .add [1] S1024 (mulf x x) 0x00000000#32 reduces_S1024x32_S1024 (.inl rfl) rfl)
          shapeCasts_S1024_S1024x1) broadcasts_S1024x1_S1024x8192))
    (mulf (broadcast S1024x8192 (Scalar.ofBits .f32 0x40000000#32))
      (matmul dot_S1024x32_S32x8192_S1024x8192_1_0_0_1_n_n none x y (constant S1024x8192 .f32 0x00000000#32)))

/-- The least distance of each row. -/
abbrev rowMin (d : FVec Ideal S1024x8192 .f32) : FVec Ideal S1024x1 .f32 :=
  shapeCast S1024x1 (multiReduction .minimumf [1] S1024 d 0x7F800000#32 reduces_S1024x8192_S1024 (.inl rfl) rfl)
    shapeCasts_S1024_S1024x1

/-- The words the row's least word is taken of: a code where its distance is the least, else 8192. -/
abbrev marks (d : FVec Ideal S1024x8192 .f32) : IVec S1024x8192 32 :=
  select (cmpf .oeq d (broadcastTo S1024x8192 (rowMin d) broadcasts_S1024x1_S1024x8192))
    (addi (iota .tc S1024x8192 32 [1] iota_S1024x8192_d1_w32) (broadcast S1024x8192 0#32))
    (broadcast S1024x8192 8192#32)

/-- The block's result of its distances. -/
abbrev pick (d : FVec Ideal S1024x8192 .f32) : IVec S1024x1 32 :=
  select (cmpf .olt (rowMin d) (broadcast S1024x1 (Scalar.ofBits .f32 0x7F800000#32)))
    (shapeCast S1024x1 (multiReductionI .minsi [1] S1024 (marks d) 2147483647#32 reduces_S1024x8192_S1024 rfl)
      shapeCasts_S1024_S1024x1)
    (broadcast S1024x1 0#32)

/-- The printed payload is that. -/
theorem pay_eq (x : Vec Ideal S1024x32 .f32) (y : Vec Ideal S32x8192 .f32) : k0_pay1 x y = pick (dist x y) := by
  unfold k0_pay1
  rw [shapeCast_self, shapeCast_self]

/-- A column of one entry per row read at a row. -/
theorem column_apply {α : Type} (v : S1024.Idx → α) (r : Fin 1024) :
    shapeCast S1024x1 v shapeCasts_S1024_S1024x1 (ix2 r 0) = v (ix1 r) :=
  shapeCast_apply _ _ _ _ (by rw [Shape.rowMajor_val_one, Shape.rowMajor_val_two]; simp)

/-- That column spread over the codes. -/
theorem spread_apply {α : Type} (v : S1024x1.Idx → α) (r : Fin 1024) (k : Fin 8192) :
    broadcastTo S1024x8192 v broadcasts_S1024x1_S1024x8192 (ix2 r k) = v (ix2 r 0) :=
  broadcastTo_apply _ _ _ _ (fun a => by match a with | ⟨0, _⟩ => rfl | ⟨1, _⟩ => rfl)

/-- A code's sum of squares, spread over the rows. -/
theorem codes_apply (y : FVec Ideal S32x8192 .f32) (r : Fin 1024) (k : Fin 8192) :
    broadcastTo S1024x8192
        (shapeCast S1x8192 (multiReduction .add [0] S8192 (mulf y y) 0x00000000#32 reduces_S32x8192_S8192 (.inl rfl) rfl)
          shapeCasts_S8192_S1x8192) broadcasts_S1x8192_S1024x8192 (ix2 r k)
      = ∑ a : Fin 32, y (ix2 a k) * y (ix2 a k) := by
  rw [broadcastTo_apply _ _ _ (ix2 0 k) (fun a => by match a with | ⟨0, _⟩ => rfl | ⟨1, _⟩ => rfl),
    shapeCast_apply _ _ (ix2 0 k) (ix1 k) (by rw [Shape.rowMajor_val_one, Shape.rowMajor_val_two]; simp)]
  refine (Ideal.multiReduction_add_single _ _ _ _ _ _).trans ?_
  refine Finset.sum_congr rfl fun (a : Fin 32) _ => ?_
  have e : reduces_S32x8192_S8192.lift (ix1 k) a = ix2 a k :=
    funext fun c => Fin.ext (by match c with | ⟨0, _⟩ => rfl | ⟨1, _⟩ => rfl)
  rw [e, mulf_apply]

/-- A row's sum of squares, spread over the codes. -/
theorem rows_apply (x : FVec Ideal S1024x32 .f32) (r : Fin 1024) (k : Fin 8192) :
    broadcastTo S1024x8192
        (shapeCast S1024x1 (multiReduction .add [1] S1024 (mulf x x) 0x00000000#32 reduces_S1024x32_S1024 (.inl rfl) rfl)
          shapeCasts_S1024_S1024x1) broadcasts_S1024x1_S1024x8192 (ix2 r k)
      = ∑ a : Fin 32, x (ix2 r a) * x (ix2 r a) := by
  rw [spread_apply, column_apply]
  refine (Ideal.multiReduction_add_single _ _ _ _ _ _).trans ?_
  refine Finset.sum_congr rfl fun (a : Fin 32) _ => ?_
  have e : reduces_S1024x32_S1024.lift (ix1 r) a = ix2 r a :=
    funext fun c => Fin.ext (by match c with | ⟨0, _⟩ => rfl | ⟨1, _⟩ => rfl)
  rw [e, mulf_apply]

/-- The inner products. -/
theorem dot_apply (x : FVec Ideal S1024x32 .f32) (y : FVec Ideal S32x8192 .f32) (r : Fin 1024) (k : Fin 8192) :
    matmul dot_S1024x32_S32x8192_S1024x8192_1_0_0_1_n_n none x y (constant S1024x8192 .f32 0x00000000#32) (ix2 r k)
      = ∑ a : Fin 32, x (ix2 r a) * y (ix2 a k) := by
  have h := Ideal.matmul_plain_apply none x y (constant ⟨2, ![1024, 8192]⟩ .f32 0x00000000#32) r k
  rw [constant_apply, Ideal.ofBits_zero_f32, zero_add] at h
  exact h

/-- The block's distances at (r, k). -/
theorem dist_apply (x : FVec Ideal S1024x32 .f32) (y : FVec Ideal S32x8192 .f32) (r : Fin 1024) (k : Fin 8192) :
    dist x y (ix2 r k) = sqDist x y r k := by
  unfold dist sqDist
  rw [subf_apply, addf_apply, mulf_apply, codes_apply, rows_apply, dot_apply]
  rfl

/-- Row `r`'s entries, in order of the code. -/
theorem lift_eq (r : Fin 1024) (k : Fin 8192) : reduces_S1024x8192_S1024.lift (ix1 r) k = ix2 r k :=
  funext fun c => Fin.ext (by match c with | ⟨0, _⟩ => rfl | ⟨1, _⟩ => rfl)

/-- The least distance of row `r`. -/
theorem rowMin_apply (d : FVec Ideal S1024x8192 .f32) (r : Fin 1024) :
    rowMin d (ix2 r 0) = (Finset.univ : Finset (Fin 8192)).fold min ⊤ fun k => d (ix2 r k) := by
  unfold rowMin
  rw [column_apply]
  refine (multiReduction_minimumf_eq_fold _ _ _ _ _ _).trans ?_
  rw [reduces_S1024x8192_S1024.fold_filter_drop_single]
  have e : (d ∘ reduces_S1024x8192_S1024.lift (ix1 r)) = fun k : Fin 8192 => d (ix2 r k) :=
    funext fun k => congrArg d (lift_eq r k)
  rw [e, show (FloatOps.ofBits .f32 0x7F800000#32 : Ideal .f32) = ⊤ from ofBits_inf]
  rfl

/-- A mark at (r, k). -/
theorem marks_apply (d : FVec Ideal S1024x8192 .f32) (r : Fin 1024) (k : Fin 8192) :
    marks d (ix2 r k) = Scalar.select (Ideal.cmp .oeq (d (ix2 r k)) (rowMin d (ix2 r 0))) (BitVec.ofNat 32 k.val) 8192#32 := by
  unfold marks
  rw [select_apply, cmpf_apply, spread_apply]
  show Scalar.select _ (iota .tc S1024x8192 32 [1] iota_S1024x8192_d1_w32 (ix2 r k) + 0#32) 8192#32 = _
  rw [iota_single_apply, BitVec.add_zero]
  rfl

/-- The least mark of row `r`. -/
theorem least_apply (d : FVec Ideal S1024x8192 .f32) (r : Fin 1024) :
    multiReductionI .minsi [1] S1024 (marks d) 2147483647#32 reduces_S1024x8192_S1024 rfl (ix1 r)
      = (Finset.univ : Finset (Fin 8192)).fold IntOp.minsi 2147483647#32 fun k => marks d (ix2 r k) := by
  refine (multiReductionI_eq_fold _ _ _ _ _ _).trans ?_
  show (Finset.univ.filter _).fold IntOp.minsi _ _ = _
  rw [reduces_S1024x8192_S1024.fold_filter_drop_single]
  have e : (marks d ∘ reduces_S1024x8192_S1024.lift (ix1 r)) = fun k : Fin 8192 => marks d (ix2 r k) :=
    funext fun k => congrArg (marks d) (lift_eq r k)
  rw [e]
  rfl

/-- The block's result at a row is the kernel's word of the row's distances. -/
theorem pick_apply (d : FVec Ideal S1024x8192 .f32) (r : Fin 1024) :
    pick d (ix2 r 0) = kernelWord fun k => d (ix2 r k) := by
  unfold pick kernelWord
  rw [select_apply, cmpf_apply, column_apply, least_apply]
  simp only [marks_apply, rowMin_apply]
  rw [show (broadcast S1024x1 (Scalar.ofBits .f32 0x7F800000#32) (ix2 r 0) : Ideal .f32) = ⊤ from ofBits_inf]
  rfl

/-- The block's result at a row is the word of the nearest code. -/
theorem pay_apply (x : Vec Ideal S1024x32 .f32) (y : Vec Ideal S32x8192 .f32) (r : Fin 1024) :
    k0_pay1 x y (ix2 r 0) = nearest x y r := by
  rw [pay_eq, pick_apply, kernelWord_eq]
  exact congrArg word (funext fun k => dist_apply x y r k)

end Cert.Block

end
-- ==== Proof.KernelValue.lean ====
/- What the kernel's arrays hold: every point writes back its block of one array, the blocks cover it, and the result is
   that array reshaped. -/
module

public import proofs.«01_k».proof.Proof.Block
public import proofs.«01_k».proof.Proof.Gen.KernelIdeal.Frame

@[expose] public section

noncomputable section

namespace Cert.KernelValue

open Cert.KernelIdeal Cert.KernelIdeal.Gen Cert.Nearest
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-- The array of words, one per row: the nearest code's, of rows and codes as the region finds them. -/
def words (x : FVec Ideal S16384x32 .f32) (y : FVec Ideal S32x8192 .f32) : IVec S16384x1 32 := fun i => nearest x y (i 0)

/-- The offset (0, 0) is zero on each axis. -/
theorem hz : (![0, 0] : Fin 2 → Nat) = fun _ => 0 := funext fun a => by fin_cases a <;> rfl

/-- Point `t`'s block of rows starts at row `1024 t`. -/
theorem index0 (t : Fin cfg0.N) : win0_0.index t 0 = t.val ∧ win0_0.index t 1 = 0 := by
  rcases fin_N0 t with rfl | rfl | rfl | rfl | rfl | rfl | rfl | rfl | rfl | rfl | rfl | rfl | rfl | rfl | rfl | rfl <;> decide +kernel
/-- Every point's block of codes is the whole codebook. -/
theorem index1 (t : Fin cfg0.N) : win0_1.index t 0 = 0 ∧ win0_1.index t 1 = 0 := by
  rcases fin_N0 t with rfl | rfl | rfl | rfl | rfl | rfl | rfl | rfl | rfl | rfl | rfl | rfl | rfl | rfl | rfl | rfl <;> decide +kernel
/-- Point `t`'s block of the result starts at row `1024 t`. -/
theorem index2 (t : Fin cfg0.N) : win0_2.index t 0 = t.val ∧ win0_2.index t 1 = 0 := by
  rcases fin_N0 t with rfl | rfl | rfl | rfl | rfl | rfl | rfl | rfl | rfl | rfl | rfl | rfl | rfl | rfl | rfl | rfl <;> decide +kernel

/-- Row `p` of point `t`'s block, in the array. -/
def row (t : Fin cfg0.N) (p : Fin 1024) : Fin 16384 :=
  ⟨t.val * 1024 + p.val, by have h := t.isLt; have hN : cfg0.N = 16 := N_0; have := p.isLt; omega⟩

/-- An entry of point `t`'s block of rows. -/
theorem iblk0_apply (c : Dev nD) (t : Fin cfg0.N) (p : Fin 1024) (a : Fin 32) :
    iblk m c 0 t (ix2 p a) = V m c main_v1 (ix2 (row t p) a) := by
  refine congrArg (V m c main_v1) (funext fun b => Fin.ext ?_)
  match b with
  | ⟨0, _⟩ => show win0_0.index t 0 * 1024 + 1 * p.val = t.val * 1024 + p.val
              rw [(index0 t).1]; omega
  | ⟨1, _⟩ => show win0_0.index t 1 * 32 + 1 * a.val = a.val
              rw [(index0 t).2]; omega

/-- An entry of the codes as every point finds them. -/
theorem iblk1_apply (c : Dev nD) (t : Fin cfg0.N) (a : Fin 32) (k : Fin 8192) :
    iblk m c 1 t (ix2 a k) = V m c main_v2 (ix2 a k) := by
  refine congrArg (V m c main_v2) (funext fun b => Fin.ext ?_)
  match b with
  | ⟨0, _⟩ => show win0_1.index t 0 * 32 + 1 * a.val = a.val
              rw [(index1 t).1]; omega
  | ⟨1, _⟩ => show win0_1.index t 1 * 8192 + 1 * k.val = k.val
              rw [(index1 t).2]; omega

/-- What point `t` writes back is its block of the words. -/
theorem flushed_eq (c : Dev nD) (t : Fin cfg0.N) :
    (dats m 0 c).flushed 2 t = (win0_2.blk t).view.read (Elt Ideal) (words (V m c main_v1) (V m c main_v2)) := by
  show (cfg0.win 2).cut (grid0.coords t) ((dats m 0 c).after 2 t) = _
  rw [after0_2]
  unfold out0_2
  rw [View.canon_unit_zero hz, View.ld_unit_zero hz, View.ld_unit_zero hz]
  refine funext fun (j : S1024x1.Idx) => ?_
  obtain ⟨p, rfl⟩ : ∃ p : Fin 1024, j = ix2 p 0 :=
    ⟨j 0, funext fun b => by match b with | ⟨0, _⟩ => rfl | ⟨1, _⟩ => exact Subsingleton.elim (α := Fin 1) _ _⟩
  refine (Block.pay_apply (iblk m c 0 t) (iblk m c 1 t) p).trans ?_
  refine (nearest_congr (iblk0_apply m c t p) (iblk1_apply m c t)).trans ?_
  refine congrArg (nearest (V m c main_v1) (V m c main_v2)) (Fin.ext ?_)
  show t.val * 1024 + p.val = win0_2.index t 0 * 1024 + 1 * p.val
  rw [(index2 t).1]; omega

/-- An index of the result array is in point `t`'s block when its row is one of the block's. -/
theorem mem_blk (t : Fin cfg0.N) (i : S16384x1.Idx) :
    i ∈ ((cfg0.win 2).blk t).view.set ↔ t.val * 1024 ≤ (i 0 : Nat) ∧ (i 0 : Nat) < t.val * 1024 + 1024 := by
  show i ∈ ((View.whole main_v3).slice (win0_2.rect t)).set ↔ _
  rw [View.set_slice_whole, Rect.mem_set_unit]
  have h1 : (i 1 : Nat) < 1 := (i 1).isLt
  obtain ⟨e0, e1⟩ := index2 t
  refine ⟨fun h => ?_, fun h a => ?_⟩
  · have : win0_2.index t 0 * 1024 ≤ (i 0 : Nat) ∧ (i 0 : Nat) < win0_2.index t 0 * 1024 + 1024 := h 0
    rw [e0] at this; exact this
  · match a with
    | ⟨0, _⟩ => show win0_2.index t 0 * 1024 ≤ (i 0 : Nat) ∧ (i 0 : Nat) < win0_2.index t 0 * 1024 + 1024
                rw [e0]; exact h
    | ⟨1, _⟩ => show win0_2.index t 1 * 1 ≤ (i 1 : Nat) ∧ (i 1 : Nat) < win0_2.index t 1 * 1 + 1
                rw [e1]; omega

/-- The blocks cover the result array. -/
theorem cover (i : S16384x1.Idx) : ∃ t : Fin cfg0.N, (cfg0.win 2).flush t = true ∧ i ∈ ((cfg0.win 2).blk t).view.set := by
  have h0 : (i 0 : Nat) < 16384 := (i 0).isLt
  have hN : cfg0.N = 16 := N_0
  refine ⟨⟨(i 0 : Nat) / 1024, by omega⟩, flush0_2 _, ?_⟩
  rw [mem_blk]
  dsimp only
  omega

/-- So the result array ends holding the words. -/
theorem final (c : Dev nD) : (dats m 0 c).arrAt 2 cfg0.N = words (V m c main_v1) (V m c main_v2) :=
  (dats m 0 c).arrAt_eq_of_cover 2 _ (fun t _ => flushed_eq m c t) cover

/-- The rows as the kernel finds them: the first argument with its channel axis last, its other axes flattened. -/
abbrev rows (a : FVec Ideal S16x32x32x32 .f32) : FVec Ideal S16384x32 .f32 :=
  shapeCast S16384x32 (transpose S16x32x32x32 [0, 2, 3, 1] a transposes_S16x32x32x32_S16x32x32x32_0_2_3_1)
    shapeCasts_S16x32x32x32_S16384x32

/-- The codes as the kernel finds them: the codebook with its two axes exchanged. -/
abbrev cols (b : FVec Ideal S8192x32 .f32) : FVec Ideal S32x8192 .f32 :=
  transpose S32x8192 [1, 0] b transposes_S8192x32_S32x8192_1_0

/-- The region finds the rows in its first array. -/
theorem V_rows (c : Dev nD) : V m c main_v1 = rows (m ((c.tc : Thread nD τ).loc main_arg0)) := by
  show after hostOps0 (fun b => m (c, b)) (main_v1 : DevRef τ sig) = _
  after_results
  rfl

/-- The region finds the codes in its second array. -/
theorem V_cols (c : Dev nD) : V m c main_v2 = cols (m ((c.tc : Thread nD τ).loc main_arg1)) := by
  show after hostOps0 (fun b => m (c, b)) (main_v2 : DevRef τ sig) = _
  after_results

/-- The reshape after the region. -/
theorem tail_eq (W : Valuation τ sig (Elt Ideal)) :
    after hostOps1 W (main_v4 : DevRef τ sig) = shapeCast S16x32x32 (W (main_v3 : DevRef τ sig)) shapeCasts_S16384x1_S16x32x32 := by
  after_results
  rfl

/-- The result after the whole program. -/
theorem out_eq (c : Dev nD) :
    Pipeline.afterTail₀ cfgs (dats m) 0 (V0 m) [hostOps1] c main_v4
      = shapeCast S16x32x32 (words (rows (m ((c.tc : Thread nD τ).loc main_arg0))) (cols (m ((c.tc : Thread nD τ).loc main_arg1))))
          shapeCasts_S16384x1_S16x32x32 := by
  unfold Pipeline.afterTail₀
  refine (tail_eq _).trans ?_
  refine congrArg (fun v : IVec S16384x1 32 => shapeCast S16x32x32 v shapeCasts_S16384x1_S16x32x32) ?_
  refine (Pipeline.withArrays_arr spec0 (by decide) c (V0 m c) (fun w => (dats m 0 c).arrAt w cfg0.N) 2).trans ?_
  rw [final, V_rows, V_cols]

/-- The kernel's run: the result array holds the words reshaped, the arguments are unchanged. -/
theorem run : θ_run defs (onTc (τ := τ) (main (F := Ideal))) ⟨m, fun _ => 0, ρ⟩ fun r => ∀ c : Dev nD,
      r.2.mem ((c.tc : Thread nD τ).loc main_v4)
          = shapeCast S16x32x32
              (words (rows (m ((c.tc : Thread nD τ).loc main_arg0))) (cols (m ((c.tc : Thread nD τ).loc main_arg1))))
              shapeCasts_S16384x1_S16x32x32
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (out_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelValue

end
-- ==== Proof.RefValue.lean ====
/- What the reference computes: at each row the word of the nearest code. -/
module

public import proofs.«01_k».proof.Proof.RefRun
public import proofs.«01_k».proof.Proof.Dist

@[expose] public section

noncomputable section

namespace Cert.RefRun

open Cert.ReferenceIdeal Cert.ReferenceIdeal.Gen Cert.Nearest
open Idealize.ShloMosaic Idealize.ShloMosaic.ValueIdx
open scoped BigOperators

/-- The transposed codebook at (a, k) is the codebook at (k, a). -/
theorem cols_apply (b : FVec Ideal S8192x32 .f32) (a : Fin 32) (k : Fin 8192) : cols b (ix2 a k) = b (ix2 k a) :=
  congrArg b (funext fun c => Fin.ext (by match c with | ⟨0, _⟩ => rfl | ⟨1, _⟩ => rfl))

/-- The codebook reduces along its second axis to one entry per code. -/
theorem reduces_codes : S8192x32.Reduces [1] S8192 := by decide
/-- The rows reduce along their second axis to one entry per row. -/
theorem reduces_rows : S16384x32.Reduces [1] S16384 := by decide
/-- The distances reduce along their second axis to one entry per row. -/
theorem reduces_dist : S16384x8192.Reduces [1] S16384 := by decide

/-- A code's sum of squares. -/
theorem codes_apply (b : FVec Ideal S8192x32 .f32) (k : Fin 8192) :
    Host.reduceAdd (mulf b b) (constant S_ .f32 0x00000000#32) reducesTo_S8192x32_S8192_d1 h_S_ (ix1 k)
      = ∑ a : Fin 32, cols b (ix2 a k) * cols b (ix2 a k) := by
  rw [hostReduceAdd_apply, Ideal.hostReduceAdd_single _ reduces_codes, constant_apply, Ideal.ofBits_zero_f32, zero_add]
  refine Finset.sum_congr rfl fun (a : Fin 32) _ => ?_
  have e : reduces_codes.lift (ix1 k) a = ix2 k a :=
    funext fun c => Fin.ext (by match c with | ⟨0, _⟩ => rfl | ⟨1, _⟩ => rfl)
  rw [e, mulf_apply, cols_apply]

/-- A row's sum of squares. -/
theorem rows_apply (x : FVec Ideal S16384x32 .f32) (r : Fin 16384) :
    Host.reduceAdd (mulf x x) (constant S_ .f32 0x00000000#32) reducesTo_S16384x32_S16384_d1 h_S_ (ix1 r)
      = ∑ a : Fin 32, x (ix2 r a) * x (ix2 r a) := by
  rw [hostReduceAdd_apply, Ideal.hostReduceAdd_single _ reduces_rows, constant_apply, Ideal.ofBits_zero_f32, zero_add]
  refine Finset.sum_congr rfl fun (a : Fin 32) _ => ?_
  have e : reduces_rows.lift (ix1 r) a = ix2 r a :=
    funext fun c => Fin.ext (by match c with | ⟨0, _⟩ => rfl | ⟨1, _⟩ => rfl)
  rw [e, mulf_apply]

/-- The inner products. -/
theorem dot_apply (x : FVec Ideal S16384x32 .f32) (y : FVec Ideal S32x8192 .f32) (r : Fin 16384) (k : Fin 8192) :
    Host.dotGeneral dot_S16384x32_S32x8192_S16384x8192_1_0_0_1_n_n none x y (ix2 r k)
      = ∑ a : Fin 32, x (ix2 r a) * y (ix2 a k) := by
  simp only [Host.dotGeneral]
  rw [Ideal.dotGeneral_apply]
  have h := Ideal.matmul_plain_apply none x y (constant ⟨2, ![16384, 8192]⟩ .f32 0x00000000#32) r k
  rw [Ideal.matmul_constant_zero_apply, constant_apply, Ideal.ofBits_zero_f32, zero_add] at h
  exact h

/-- The array of distances at (r, k). -/
theorem dist_apply (x : FVec Ideal S16384x32 .f32) (b : FVec Ideal S8192x32 .f32) (r : Fin 16384) (k : Fin 8192) :
    dist x b (ix2 r k) = sqDist x (cols b) r k := by
  unfold dist sqDist
  rw [subf_apply, addf_apply, mulf_apply, dot_apply, broadcastInDim_scalar_apply, constant_apply,
    broadcastInDim_apply _ _ _ (ix2 r k) (ix2 0 k) (fun a => by match a with | ⟨0, _⟩ => rfl | ⟨1, _⟩ => rfl),
    broadcastInDim_apply _ _ _ (ix2 0 k) (ix1 k) (fun a => by match a with | ⟨0, _⟩ => rfl),
    broadcastInDim_apply _ _ _ (ix2 r k) (ix2 r 0) (fun a => by match a with | ⟨0, _⟩ => rfl | ⟨1, _⟩ => rfl),
    broadcastInDim_apply _ _ _ (ix2 r 0) (ix1 r) (fun a => by match a with | ⟨0, _⟩ => rfl),
    codes_apply, rows_apply]

/-- The reference's pair comparison keeps the lower pair. -/
theorem keeps : Keeps (reducer_argmin_f32_i32 (F := Ideal)) := by
  rintro ⟨v, i⟩ ⟨w, j⟩
  unfold reducer_argmin_f32_i32 Le
  simp only [Ideal.cmpf_def, Ideal.cmp, IntOp.cmpi, IntOp.ori, IntOp.andi, Scalar.select, BitVec.slt]
  have one_or : ∀ c : Bool, 1#1 ||| BitVec.ofBool c = 1#1 := by decide
  rcases lt_trichotomy v w with h | h | h
  · simp [h, one_or]
  · subst h
    by_cases hi : i.toInt < j.toInt
    · simp [hi, hi.le]
    · simp [hi, not_lt.1 hi]
  · simp [h, h.not_gt, h.ne']

/-- The arg-min's index array, spelt out. -/
theorem argIdx_eq (d : FVec Ideal S16384x8192 .f32) (y : IVec S16384x8192 32) (u : FVec Ideal S_ .f32) (v : IVec S_ 32) :
    argIdx d y u v = fun j =>
      (Host.argReduce reducer_argmin_f32_i32 d y u v reducesTo_S16384x8192_S16384_d1 h_S_ j).2 := by
  unfold argIdx
  rfl

/-- The array of codes holds, at (r, k), the word of `k`. -/
theorem codes_word (r : Fin 16384) (k : Fin 8192) : iotaInDim S16384x8192 32 1 (ix2 r k) = BitVec.ofNat 32 k.val := rfl

/-- The arg-min starts from the value +∞. -/
theorem init_val : (constant S_ .f32 0x7F800000#32 : FVec Ideal S_ .f32) (Shape.Idx.first h_S_) = (⊤ : EReal) := ofBits_inf

/-- The arg-min starts from the index 0. -/
theorem init_idx : constantI S_ 32 0#32 (Shape.Idx.first h_S_) = 0#32 := rfl

/-- The arg-min of any array of distances, at a row: the word of the row's first least entry. -/
theorem argIdx_apply (d : FVec Ideal S16384x8192 .f32) (y : IVec S16384x8192 32) (u : FVec Ideal S_ .f32) (v : IVec S_ 32)
    (hy : ∀ (r : Fin 16384) (k : Fin 8192), y (ix2 r k) = BitVec.ofNat 32 k.val)
    (hu : u (Shape.Idx.first h_S_) = (⊤ : EReal)) (hv : v (Shape.Idx.first h_S_) = 0#32) (r : Fin 16384) :
    argIdx d y u v (ix1 r) = word fun k : Fin 8192 => d (ix2 r k) := by
  have h := @argReduce_row 16384 8192 _ (by norm_num) (reducer_argmin_f32_i32 (F := Ideal)) keeps d y hy S_ u v
    reducesTo_S16384x8192_S16384_d1 reduces_dist h_S_ hu hv r
  exact (congrFun (argIdx_eq d y u v) (ix1 r)).trans h

/-- The reference's rows of results: row `r` holds the word of the nearest code. -/
theorem out_apply (x : FVec Ideal S16384x32 .f32) (b : FVec Ideal S8192x32 .f32) (r : Fin 16384) :
    arg (dist x b) (ix1 r) = nearest x (cols b) r := by
  have e : (fun k : Fin 8192 => dist x b (ix2 r k)) = sqDist x (cols b) r := funext fun k => dist_apply x b r k
  have h := argIdx_apply (dist x b) _ _ _ codes_word init_val init_idx r
  unfold nearest
  rw [← e]
  exact h

end Cert.RefRun

end
-- ==== Proof.Equation.lean ====
/- The equation: the kernel's result and the reference's are one function of the arguments. -/
module

public import proofs.«01_k».proof.Proof.KernelValue
public import proofs.«01_k».proof.Proof.RefValue

@[expose] public section

noncomputable section

namespace Cert.Equation

open Cert.Nearest
open Idealize.ShloMosaic Idealize.ShloMosaic.ValueIdx

/-- A column of words and a list of the same words have the same reshape to (16, 32, 32). -/
theorem reshape_eq (v : IVec ⟨2, ![16384, 1]⟩ 32) (w : IVec ⟨1, ![16384]⟩ 32)
    (hv : (⟨2, ![16384, 1]⟩ : Shape).ShapeCasts ⟨3, ![16, 32, 32]⟩) (hw : (⟨1, ![16384]⟩ : Shape).ShapeCasts ⟨3, ![16, 32, 32]⟩)
    (h : ∀ r : Fin 16384, v (ix2 r 0) = w (ix1 r)) :
    shapeCast ⟨3, ![16, 32, 32]⟩ v hv = shapeCast ⟨3, ![16, 32, 32]⟩ w hw := by
  funext j
  have h0 : (j 0 : Nat) < 16 := (j 0).isLt
  have h1 : (j 1 : Nat) < 32 := (j 1).isLt
  have h2 : (j 2 : Nat) < 32 := (j 2).isLt
  obtain ⟨r, hr⟩ : ∃ r : Fin 16384, r.val = ((j 0 : Nat) * 32 + (j 1 : Nat)) * 32 + (j 2 : Nat) := ⟨⟨_, by omega⟩, rfl⟩
  rw [shapeCast_apply v hv j (ix2 r 0) (by
      rw [Shape.rowMajor_val_two, Shape.rowMajor_val_three]
      show r.val * 1 + 0 = ((j 0 : Nat) * 32 + (j 1 : Nat)) * 32 + (j 2 : Nat)
      omega),
    shapeCast_apply w hw j (ix1 r) (by
      rw [Shape.rowMajor_val_one, Shape.rowMajor_val_three]
      show r.val = ((j 0 : Nat) * 32 + (j 1 : Nat)) * 32 + (j 2 : Nat)
      omega), h]

/-- The two results are equal. -/
theorem results_eq (a : FVec Ideal ⟨4, ![16, 32, 32, 32]⟩ .f32) (b : FVec Ideal ⟨2, ![8192, 32]⟩ .f32) :
    shapeCast ⟨3, ![16, 32, 32]⟩ (RefRun.arg (RefRun.dist (RefRun.rows a) b)) Cert.ReferenceIdeal.Facts₀.shapeCasts_S16384_S16x32x32
      = shapeCast ⟨3, ![16, 32, 32]⟩ (KernelValue.words (KernelValue.rows a) (KernelValue.cols b))
          Cert.KernelIdeal.Facts₀.shapeCasts_S16384x1_S16x32x32 :=
  (reshape_eq _ _ _ _ fun r => (RefRun.out_apply (RefRun.rows a) b r).symm).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KernelValue
public import proofs.«01_k».proof.Proof.Equation
public import Idealize.ShloMosaic.Adequacy
public import Idealize.ShloMosaic.Init

@[expose] public section

noncomputable section

namespace Cert.Proof

open Idealize.ShloMosaic Idealize.SL.Sem

/-- From memories agreeing on the arguments, the kernel and the reference end with equal results: at each position the
    first code of least squared distance to that position's row. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, Cert.KernelValue.run m g, (θ_run _ _ _).mono (fun r h c => ?_) (Cert.RefRun.run m' g')⟩
  refine ⟨(h c).1.trans ?_, (h c).2.1, (h c).2.2⟩
  rw [(hargs c).1, (hargs c).2]
  exact Cert.Equation.results_eq _ _

/-- The five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, fun m ρ _ => Cert.RefRun.frame m ρ,
    trivial, algebraic⟩

end Cert.Proof

end
